-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S320x2x512 Cert.KernelIdeal.S320x1x512
  ∧ IdealRules.bf16_pair.PackStatement Cert.KernelIdeal.S320x512
  ∧ IdealRules.bf16_pair.Statement Cert.KernelIdeal.S320x2x512 Cert.KernelIdeal.S320x1x512
  ∧ IdealRules.bf16_pair.Statement Cert.KernelIdeal.S1x2x512 Cert.KernelIdeal.S1x1x512
  ∧ IdealRules.bf16_pair.Statement Cert.KernelIdeal.S16x512 Cert.KernelIdeal.S8x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x5120 : Shape := ⟨3, ![96, 1, 5120]⟩
abbrev S2560x55296 : Shape := ⟨2, ![2560, 55296]⟩
abbrev S320x55296 : Shape := ⟨2, ![320, 55296]⟩
abbrev S432x96x128 : Shape := ⟨3, ![432, 96, 128]⟩
abbrev S96x5120 : Shape := ⟨2, ![96, 5120]⟩
abbrev S96x55296 : Shape := ⟨2, ![96, 55296]⟩
abbrev S2560x512 : Shape := ⟨2, ![2560, 512]⟩
abbrev S320x512 : Shape := ⟨2, ![320, 512]⟩
abbrev S96x512 : Shape := ⟨2, ![96, 512]⟩
abbrev S128x512 : Shape := ⟨2, ![128, 512]⟩
abbrev S256x512 : Shape := ⟨2, ![256, 512]⟩
abbrev S1x512 : Shape := ⟨2, ![1, 512]⟩
abbrev S8x512 : Shape := ⟨2, ![8, 512]⟩
abbrev S16x512 : Shape := ⟨2, ![16, 512]⟩
abbrev S96x256 : Shape := ⟨2, ![96, 256]⟩
abbrev S96x2048 : Shape := ⟨2, ![96, 2048]⟩
abbrev S16x96x128 : Shape := ⟨3, ![16, 96, 128]⟩
abbrev S96x128 : Shape := ⟨2, ![96, 128]⟩
abbrev S1x96x128 : Shape := ⟨3, ![1, 96, 128]⟩

abbrev nBuf : Space → Nat
  | .hbm => 8
  | .vmem => 17
  | .smem => 0
  | _ => 0

abbrev bufTy : (tb : Table) → Fin (tcTables nBuf tb) → BufTy
  | .hbm, ⟨0, _⟩ => ⟨S96x1x5120, .bf16⟩
  | .hbm, ⟨1, _⟩ => ⟨S2560x55296, .i8⟩
  | .hbm, ⟨2, _⟩ => ⟨S320x55296, .bf16⟩
  | .hbm, ⟨3, _⟩ => ⟨S320x55296, .i8⟩
  | .hbm, ⟨4, _⟩ => ⟨S432x96x128, .f32⟩
  | .hbm, ⟨5, _⟩ => ⟨S96x5120, .bf16⟩
  | .hbm, ⟨6, _⟩ => ⟨S96x55296, .f32⟩
  | .hbm, ⟨7, _⟩ => ⟨S96x55296, .bf16⟩
  | .local _ .vmem, ⟨0, _⟩ => ⟨S96x5120, .bf16⟩
  | .local _ .vmem, ⟨1, _⟩ => ⟨S2560x512, .i8⟩
  | .local _ .vmem, ⟨2, _⟩ => ⟨S2560x512, .i8⟩
  | .local _ .vmem, ⟨3, _⟩ => ⟨S320x512, .bf16⟩
  | .local _ .vmem, ⟨4, _⟩ => ⟨S320x512, .bf16⟩
  | .local _ .vmem, ⟨5, _⟩ => ⟨S320x512, .i8⟩
  | .local _ .vmem, ⟨6, _⟩ => ⟨S320x512, .i8⟩
  | .local _ .vmem, ⟨7, _⟩ => ⟨S96x512, .f32⟩
  | .local _ .vmem, ⟨8, _⟩ => ⟨S96x512, .f32⟩
  | .local _ .vmem, ⟨9, _⟩ => ⟨S320x512, .i32⟩
  | .local _ .vmem, ⟨10, _⟩ => ⟨S320x512, .i32⟩
  | .local _ .vmem, ⟨11, _⟩ => ⟨S96x2048, .f32⟩
  | .local _ .vmem, ⟨12, _⟩ => ⟨S96x2048, .f32⟩
  | .local _ .vmem, ⟨13, _⟩ => ⟨S16x96x128, .f32⟩
  | .local _ .vmem, ⟨14, _⟩ => ⟨S16x96x128, .f32⟩
  | .local _ .vmem, ⟨15, _⟩ => ⟨S96x2048, .bf16⟩
  | .local _ .vmem, ⟨16, _⟩ => ⟨S96x2048, .bf16⟩
  | _, _ => ⟨S96x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [BitOps F]

abbrev grid0 : Pipeline.Grid := ⟨1, ![108], ![false]⟩

@[reducible] def k0_t1_loop : Scf.Loop 32 :=
  let c0_i32 : BitVec 32 := 0#32
  let c20_i32 : BitVec 32 := 20#32
  let v14 : BitVec 32 := Scalar.addi c0_i32 c20_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v17 : BitVec 32 := Scalar.muli arg8 c128_i32
  v17
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v17 : BitVec 32 := Scalar.muli arg8 c128_i32
  let v18 : BitVec 32 := v17
  let v19 : Index := Scalar.indexCast v18
  let c0_10 : Index := 0#32
  ![v19.toNat, 0]
def k0_off2 (k0_t1 : Fin k0_t1_loop.trips) (c0_i32_12 : BitVec 32) : Fin 2 → Nat :=
  let c0_i32 : BitVec 32 := 0#32
  let c1_i32 : BitVec 32 := 1#32
  let arg8 : BitVec 32 := Scf.iv c0_i32 c1_i32 k0_t1
  let c16_i32_11 : BitVec 32 := 16#32
  let v31 : BitVec 32 := Scalar.muli arg8 c16_i32_11
  let v32 : BitVec 32 := Scalar.addi v31 c0_i32_12
  let v33 : Index := Scalar.indexCast v32
  let c0_13 : Index := 0#32
  ![v33.toNat, 0]
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v240 : BitVec 32 := Scalar.muli arg8 c256_i32
  v240
def k0_off3 (k0_t1 : Fin k0_t1_loop.trips) : Fin 2 → Nat :=
  let c0_63 : Index := 0#32
  let c0_i32 : BitVec 32 := 0#32
  let c1_i32 : BitVec 32 := 1#32
  let arg8 : BitVec 32 := Scf.iv c0_i32 c1_i32 k0_t1
  let c256_i32 : BitVec 32 := 256#32
  let v240 : BitVec 32 := Scalar.muli arg8 c256_i32
  let v241 : BitVec 32 := v240
  let v242 : Index := Scalar.indexCast v241
  ![0, v242.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![27], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S96x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x96x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S96x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== KernelIdeal.lean ====
abbrev S96x1x5120 : Shape := ⟨3, ![96, 1, 5120]⟩
abbrev S2560x55296 : Shape := ⟨2, ![2560, 55296]⟩
abbrev S320x55296 : Shape := ⟨2, ![320, 55296]⟩
abbrev S432x96x128 : Shape := ⟨3, ![432, 96, 128]⟩
abbrev S96x5120 : Shape := ⟨2, ![96, 5120]⟩
abbrev S96x55296 : Shape := ⟨2, ![96, 55296]⟩
abbrev S2560x512 : Shape := ⟨2, ![2560, 512]⟩
abbrev S320x512 : Shape := ⟨2, ![320, 512]⟩
abbrev S96x512 : Shape := ⟨2, ![96, 512]⟩
abbrev S320x2x512 : Shape := ⟨3, ![320, 2, 512]⟩
abbrev S320x1x512 : Shape := ⟨3, ![320, 1, 512]⟩
abbrev S128x512 : Shape := ⟨2, ![128, 512]⟩
abbrev S256x512 : Shape := ⟨2, ![256, 512]⟩
abbrev S1x512 : Shape := ⟨2, ![1, 512]⟩
abbrev S1x2x512 : Shape := ⟨3, ![1, 2, 512]⟩
abbrev S1x1x512 : Shape := ⟨3, ![1, 1, 512]⟩
abbrev S8x512 : Shape := ⟨2, ![8, 512]⟩
abbrev S16x512 : Shape := ⟨2, ![16, 512]⟩
abbrev S96x256 : Shape := ⟨2, ![96, 256]⟩
abbrev S96x2048 : Shape := ⟨2, ![96, 2048]⟩
abbrev S16x96x128 : Shape := ⟨3, ![16, 96, 128]⟩
abbrev S96x128 : Shape := ⟨2, ![96, 128]⟩
abbrev S1x96x128 : Shape := ⟨3, ![1, 96, 128]⟩

abbrev nBuf : Space → Nat
  | .hbm => 8
  | .vmem => 17
  | .smem => 0
  | _ => 0

abbrev bufTy : (tb : Table) → Fin (tcTables nBuf tb) → BufTy
  | .hbm, ⟨0, _⟩ => ⟨S96x1x5120, .bf16⟩
  | .hbm, ⟨1, _⟩ => ⟨S2560x55296, .i8⟩
  | .hbm, ⟨2, _⟩ => ⟨S320x55296, .bf16⟩
  | .hbm, ⟨3, _⟩ => ⟨S320x55296, .i8⟩
  | .hbm, ⟨4, _⟩ => ⟨S432x96x128, .f32⟩
  | .hbm, ⟨5, _⟩ => ⟨S96x5120, .bf16⟩
  | .hbm, ⟨6, _⟩ => ⟨S96x55296, .f32⟩
  | .hbm, ⟨7, _⟩ => ⟨S96x55296, .bf16⟩
  | .local _ .vmem, ⟨0, _⟩ => ⟨S96x5120, .bf16⟩
  | .local _ .vmem, ⟨1, _⟩ => ⟨S2560x512, .i8⟩
  | .local _ .vmem, ⟨2, _⟩ => ⟨S2560x512, .i8⟩
  | .local _ .vmem, ⟨3, _⟩ => ⟨S320x512, .bf16⟩
  | .local _ .vmem, ⟨4, _⟩ => ⟨S320x512, .bf16⟩
  | .local _ .vmem, ⟨5, _⟩ => ⟨S320x512, .i8⟩
  | .local _ .vmem, ⟨6, _⟩ => ⟨S320x512, .i8⟩
  | .local _ .vmem, ⟨7, _⟩ => ⟨S96x512, .f32⟩
  | .local _ .vmem, ⟨8, _⟩ => ⟨S96x512, .f32⟩
  | .local _ .vmem, ⟨9, _⟩ => ⟨S320x2x512, .bf16⟩
  | .local _ .vmem, ⟨10, _⟩ => ⟨S320x2x512, .bf16⟩
  | .local _ .vmem, ⟨11, _⟩ => ⟨S96x2048, .f32⟩
  | .local _ .vmem, ⟨12, _⟩ => ⟨S96x2048, .f32⟩
  | .local _ .vmem, ⟨13, _⟩ => ⟨S16x96x128, .f32⟩
  | .local _ .vmem, ⟨14, _⟩ => ⟨S16x96x128, .f32⟩
  | .local _ .vmem, ⟨15, _⟩ => ⟨S96x2048, .bf16⟩
  | .local _ .vmem, ⟨16, _⟩ => ⟨S96x2048, .bf16⟩
  | _, _ => ⟨S96x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![108], ![false]⟩

@[reducible] def k0_t1_loop : Scf.Loop 32 :=
  let c0_i32 : BitVec 32 := 0#32
  let c20_i32 : BitVec 32 := 20#32
  let v14 : BitVec 32 := Scalar.addi c0_i32 c20_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v17 : BitVec 32 := Scalar.muli arg8 c128_i32
  v17
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v17 : BitVec 32 := Scalar.muli arg8 c128_i32
  let v18 : BitVec 32 := v17
  let v19 : Index := Scalar.indexCast v18
  let c0_10 : Index := 0#32
  ![v19.toNat, 0]
def k0_off2 (k0_t1 : Fin k0_t1_loop.trips) (c0_i32_12 : BitVec 32) : Fin 3 → Nat :=
  let c0_i32 : BitVec 32 := 0#32
  let c1_i32 : BitVec 32 := 1#32
  let arg8 : BitVec 32 := Scf.iv c0_i32 c1_i32 k0_t1
  let c16_i32_11 : BitVec 32 := 16#32
  let v31 : BitVec 32 := Scalar.muli arg8 c16_i32_11
  let v32 : BitVec 32 := Scalar.addi v31 c0_i32_12
  let v33 : Index := Scalar.indexCast v32
  let c0_13 : Index := 0#32
  ![v33.toNat, 0, 0]
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v240 : BitVec 32 := Scalar.muli arg8 c256_i32
  v240
def k0_off3 (k0_t1 : Fin k0_t1_loop.trips) : Fin 2 → Nat :=
  let c0_63 : Index := 0#32
  let c0_i32 : BitVec 32 := 0#32
  let c1_i32 : BitVec 32 := 1#32
  let arg8 : BitVec 32 := Scf.iv c0_i32 c1_i32 k0_t1
  let c256_i32 : BitVec 32 := 256#32
  let v240 : BitVec 32 := Scalar.muli arg8 c256_i32
  let v241 : BitVec 32 := v240
  let v242 : Index := Scalar.indexCast v241
  ![0, v242.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![27], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S96x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x96x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S96x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S96x1x5120 : Shape := ⟨3, ![96, 1, 5120]⟩
abbrev S2560x55296 : Shape := ⟨2, ![2560, 55296]⟩
abbrev S320x55296 : Shape := ⟨2, ![320, 55296]⟩
abbrev S432x96x128 : Shape := ⟨3, ![432, 96, 128]⟩
abbrev S_ : Shape := ⟨0, ![]⟩
abbrev S320x8x55296 : Shape := ⟨3, ![320, 8, 55296]⟩
abbrev S320x1x55296 : Shape := ⟨3, ![320, 1, 55296]⟩
abbrev S96x1x2560 : Shape := ⟨3, ![96, 1, 2560]⟩
abbrev S96x1x55296 : Shape := ⟨3, ![96, 1, 55296]⟩
abbrev S96x432x128 : Shape := ⟨3, ![96, 432, 128]⟩
abbrev S96x55296 : Shape := ⟨2, ![96, 55296]⟩

abbrev nBuf : Space → Nat
  | .hbm => 44
  | .vmem => 0
  | .smem => 0
  | _ => 0

abbrev bufTy : (tb : Table) → Fin (tcTables nBuf tb) → BufTy
  | .hbm, ⟨0, _⟩ => ⟨S96x1x5120, .bf16⟩
  | .hbm, ⟨1, _⟩ => ⟨S2560x55296, .i8⟩
  | .hbm, ⟨2, _⟩ => ⟨S320x55296, .bf16⟩
  | .hbm, ⟨3, _⟩ => ⟨S320x55296, .i8⟩
  | .hbm, ⟨4, _⟩ => ⟨S432x96x128, .f32⟩
  | .hbm, ⟨5, _⟩ => ⟨S2560x55296, .i32⟩
  | .hbm, ⟨6, _⟩ => ⟨S_, .i32⟩
  | .hbm, ⟨7, _⟩ => ⟨S2560x55296, .i32⟩
  | .hbm, ⟨8, _⟩ => ⟨S2560x55296, .i32⟩
  | .hbm, ⟨9, _⟩ => ⟨S2560x55296, .bf16⟩
  | .hbm, ⟨10, _⟩ => ⟨S320x8x55296, .bf16⟩
  | .hbm, ⟨11, _⟩ => ⟨S320x55296, .i32⟩
  | .hbm, ⟨12, _⟩ => ⟨S320x55296, .bf16⟩
  | .hbm, ⟨13, _⟩ => ⟨S320x1x55296, .bf16⟩
  | .hbm, ⟨14, _⟩ => ⟨S320x8x55296, .bf16⟩
  | .hbm, ⟨15, _⟩ => ⟨S320x8x55296, .bf16⟩
  | .hbm, ⟨16, _⟩ => ⟨S320x1x55296, .bf16⟩
  | .hbm, ⟨17, _⟩ => ⟨S320x8x55296, .bf16⟩
  | .hbm, ⟨18, _⟩ => ⟨S320x8x55296, .bf16⟩
  | .hbm, ⟨19, _⟩ => ⟨S2560x55296, .bf16⟩
  | .hbm, ⟨20, _⟩ => ⟨S_, .i32⟩
  | .hbm, ⟨21, _⟩ => ⟨S2560x55296, .i32⟩
  | .hbm, ⟨22, _⟩ => ⟨S2560x55296, .i32⟩
  | .hbm, ⟨23, _⟩ => ⟨S2560x55296, .bf16⟩
  | .hbm, ⟨24, _⟩ => ⟨S320x8x55296, .bf16⟩
  | .hbm, ⟨25, _⟩ => ⟨S320x55296, .i32⟩
  | .hbm, ⟨26, _⟩ => ⟨S320x55296, .bf16⟩
  | .hbm, ⟨27, _⟩ => ⟨S320x1x55296, .bf16⟩
  | .hbm, ⟨28, _⟩ => ⟨S320x8x55296, .bf16⟩
  | .hbm, ⟨29, _⟩ => ⟨S320x8x55296, .bf16⟩
  | .hbm, ⟨30, _⟩ => ⟨S320x1x55296, .bf16⟩
  | .hbm, ⟨31, _⟩ => ⟨S320x8x55296, .bf16⟩
  | .hbm, ⟨32, _⟩ => ⟨S320x8x55296, .bf16⟩
  | .hbm, ⟨33, _⟩ => ⟨S2560x55296, .bf16⟩
  | .hbm, ⟨34, _⟩ => ⟨S96x1x2560, .bf16⟩
  | .hbm, ⟨35, _⟩ => ⟨S96x1x55296, .f32⟩
  | .hbm, ⟨36, _⟩ => ⟨S96x1x2560, .bf16⟩
  | .hbm, ⟨37, _⟩ => ⟨S96x1x55296, .f32⟩
  | .hbm, ⟨38, _⟩ => ⟨S96x1x55296, .f32⟩
  | .hbm, ⟨39, _⟩ => ⟨S96x432x128, .f32⟩
  | .hbm, ⟨40, _⟩ => ⟨S96x55296, .f32⟩
  | .hbm, ⟨41, _⟩ => ⟨S96x55296, .f32⟩
  | .hbm, ⟨42, _⟩ => ⟨S96x55296, .f32⟩
  | .hbm, ⟨43, _⟩ => ⟨S96x55296, .bf16⟩
  | _, _ => ⟨S96x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== Proof.Frames.lean ====
/- The frames of the kernel, of its idealization and of the reference, and the idealization's rewrites. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Bf16PairInverse
public import Idealize.ShloMosaic.Lib.Quiescent

@[expose] public section

noncomputable section

namespace Cert.Proof.Frames

open Idealize.ShloMosaic Idealize.SL.Sem

/-- The kernel's frame on the machine's floats. -/
theorem frame_p : Cert.quiescent_Kernel := fun m ρ _ => Cert.Kernel.Gen.frame m ρ

/-- The idealized kernel's frame. -/
theorem frame_pi : Cert.quiescent_KernelIdeal := fun m ρ _ => Cert.KernelIdeal.Gen.frame m ρ

/-- The reference's frame: its run read at the arguments; it has no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The rewrites of the two packed scratch buffers: the buffers declared as pairs, the packing, the whole-buffer and
    one-row accesses, and the sixteen rows a group's eight words are read as. -/
theorem preserves : Cert.preserves_Kernel_KernelIdeal :=
  open Cert.KernelIdeal IdealRules.bf16_pair in
  ⟨bufferStatement S320x2x512 S320x1x512, packStatement S320x512, statement S320x2x512 S320x1x512,
    statement S1x2x512 S1x1x512, statement S16x512 S8x512⟩

end Cert.Proof.Frames

end
-- ==== Proof.Spec.lean ====
/-
  The layer's mathematics, over the extended reals, in one place: a four-bit code as a number (`nib`), one row's
  contribution to an output element (`term`) and the sum over the 5120 rows (`dense`), for any number `N` of columns.
  Row `d` of the weights is the low (`d` even) or the high (`d` odd) half of packed row `d / 2`, and has the scale and
  the zero point of its group of sixteen rows, `d / 16`. `dense_split` splits the sum into the even and the odd rows.
-/
module

public import Idealize.ShloMosaic.PureOps.Ideal.Laws
public import Idealize.ShloMosaic.Lib.ValueIdxCore
public import Mathlib.Algebra.BigOperators.Intervals

@[expose] public section

noncomputable section

open Idealize.ShloMosaic Idealize.ShloMosaic.ValueIdx
open scoped BigOperators

namespace Cert.Proof.Spec

/-- The low (`h = 0`) or the high half of a packed byte, as a number. -/
def nib (h : ℕ) (p : BitVec 8) : EReal := (((if h = 0 then p.toNat % 16 else p.toNat / 16 : ℕ) : ℝ) : EReal)

/-- A byte read as an unsigned number. -/
def byte (z : BitVec 8) : EReal := ((z.toNat : ℝ) : EReal)

/-- Row `d`'s contribution to row `b`, column `n` of the product. -/
def term {N : ℕ} (x : (⟨2, ![96, 5120]⟩ : Shape).Idx → EReal) (p : (⟨2, ![2560, N]⟩ : Shape).Idx → BitVec 8)
    (s : (⟨2, ![320, N]⟩ : Shape).Idx → EReal) (z : (⟨2, ![320, N]⟩ : Shape).Idx → BitVec 8) (b : Fin 96) (n : Fin N) (d : ℕ) : EReal :=
  x (ix2 b (Fin.ofNat 5120 d)) *
    ((nib (d % 2) (p (ix2 (Fin.ofNat 2560 (d / 2)) n)) - byte (z (ix2 (Fin.ofNat 320 (d / 16)) n))) * s (ix2 (Fin.ofNat 320 (d / 16)) n))

/-- The product of the activations with the unpacked weights, at row `b`, column `n`. -/
def dense {N : ℕ} (x : (⟨2, ![96, 5120]⟩ : Shape).Idx → EReal) (p : (⟨2, ![2560, N]⟩ : Shape).Idx → BitVec 8)
    (s : (⟨2, ![320, N]⟩ : Shape).Idx → EReal) (z : (⟨2, ![320, N]⟩ : Shape).Idx → BitVec 8) (b : Fin 96) (n : Fin N) : EReal :=
  ∑ d ∈ Finset.range 5120, term x p s z b n d

/-- A sum over an even number of positions is the sum over the even ones plus the sum over the odd ones. -/
theorem sum_even_odd (f : ℕ → EReal) (n : ℕ) :
    ∑ d ∈ Finset.range (2 * n), f d = ∑ q ∈ Finset.range n, f (2 * q) + ∑ q ∈ Finset.range n, f (2 * q + 1) := by
  induction n with
  | zero => simp
  | succ n ih =>
    rw [show 2 * (n + 1) = 2 * n + 1 + 1 by ring, Finset.sum_range_succ, Finset.sum_range_succ, ih,
      Finset.sum_range_succ, Finset.sum_range_succ]
    abel

theorem dense_split {N : ℕ} (x : (⟨2, ![96, 5120]⟩ : Shape).Idx → EReal) (p : (⟨2, ![2560, N]⟩ : Shape).Idx → BitVec 8)
    (s : (⟨2, ![320, N]⟩ : Shape).Idx → EReal) (z : (⟨2, ![320, N]⟩ : Shape).Idx → BitVec 8) (b : Fin 96) (n : Fin N) :
    dense x p s z b n = ∑ q : Fin 2560, term x p s z b n (2 * q.val) + ∑ q : Fin 2560, term x p s z b n (2 * q.val + 1) := by
  rw [Fin.sum_univ_eq_sum_range (fun q => term x p s z b n (2 * q)), Fin.sum_univ_eq_sum_range (fun q => term x p s z b n (2 * q + 1))]
  exact sum_even_odd _ 2560

/-! ## The bits of a packed byte

  Each fact is checked for the 256 bytes. -/

/-- The word the kernel makes of a packed byte: the low half in the low sixteen bits, the high half in the high ones. -/
def word (p : BitVec 8) : BitVec 32 :=
  IntOp.ori (IntOp.andi (p.setWidth 32) 15#32) (IntOp.shli .vector (IntOp.shrsi .vector (p.setWidth 32) 4#32) 16#32)

theorem word_lo (p : BitVec 8) : ((word p).extractLsb' 0 16).toInt = ((p.toNat % 16 : ℕ) : ℤ) := by
  have h : ∀ n : Fin 256, ((word (BitVec.ofFin n)).extractLsb' 0 16).toInt = (((BitVec.ofFin (w := 8) n).toNat % 16 : ℕ) : ℤ) := by
    decide +kernel
  exact h p.toFin

theorem word_hi (p : BitVec 8) : ((word p).extractLsb' 16 16).toInt = ((p.toNat / 16 : ℕ) : ℤ) := by
  have h : ∀ n : Fin 256, ((word (BitVec.ofFin n)).extractLsb' 16 16).toInt = (((BitVec.ofFin (w := 8) n).toNat / 16 : ℕ) : ℤ) := by
    decide +kernel
  exact h p.toFin

theorem and_lo (p : BitVec 8) : (IntOp.andi (p.setWidth 32) 15#32).toInt = ((p.toNat % 16 : ℕ) : ℤ) := by
  have h : ∀ n : Fin 256, (IntOp.andi ((BitVec.ofFin (w := 8) n).setWidth 32) 15#32).toInt = (((BitVec.ofFin (w := 8) n).toNat % 16 : ℕ) : ℤ) := by
    decide +kernel
  exact h p.toFin

theorem shift_hi (p : BitVec 8) : (IntOp.shrsi .host (p.setWidth 32) 4#32).toInt = ((p.toNat / 16 : ℕ) : ℤ) := by
  have h : ∀ n : Fin 256, (IntOp.shrsi .host ((BitVec.ofFin (w := 8) n).setWidth 32) 4#32).toInt = (((BitVec.ofFin (w := 8) n).toNat / 16 : ℕ) : ℤ) := by
    decide +kernel
  exact h p.toFin

theorem widen (p : BitVec 8) : (p.setWidth 32).toInt = ((p.toNat : ℕ) : ℤ) := by
  have h : ∀ n : Fin 256, ((BitVec.ofFin (w := 8) n).setWidth 32).toInt = (((BitVec.ofFin (w := 8) n).toNat : ℕ) : ℤ) := by
    decide +kernel
  exact h p.toFin

end Cert.Proof.Spec

end
-- ==== Proof.Trip.lean ====
/-
  One trip of the dense kernel's counted loop, read as mathematics. A trip takes 256 rows of the weights: sixteen groups
  of sixteen rows, every group with its own row of scales and of zero points. `tile` writes one group's weights as a
  term (the codes less the zero points, times the scales), `trip_eq` says a trip is one product of the activations with
  the sixteen groups' weights stacked, and `trip_apply` reads it at an element over the extended reals: what was carried
  plus the sum over the trip's 256 rows.
-/
module

public import proofs.«01_k».proof.Proof.Gen.KernelIdeal.Frame
public import Idealize.ShloMosaic.Lib.Pipeline.Value
public import proofs.«01_k».proof.Proof.Spec
public import Idealize.ShloMosaic.Lib.BitcastPair
public import Idealize.ShloMosaic.Lib.MatmulPlain
public import Idealize.ShloMosaic.Lib.ValueIdx
public import Idealize.ShloMosaic.Lib.Pipeline.ValueKit.Tiles

@[expose] public section

noncomputable section

open Idealize.ShloMosaic Idealize.ShloMosaic.TcCoe Idealize.SL.Sem Idealize.ShloMosaic.Tactic
open Idealize.ShloMosaic.ValueIdx
open scoped BigOperators

namespace Cert.Proof.Trip

open Cert.KernelIdeal Cert.KernelIdeal.Gen Cert.Proof.Spec

section Terms
variable {F : FTy → Type} [FloatOps F]

/-- One row of a scratch buffer of pairs, taken eight times and its two halves interleaved: sixteen rows. -/
def rep (raw : Vec F S1x2x512 .bf16) : FVec F S16x512 .bf16 :=
  have lo : FVec F S1x512 .bf16 := shapeCast S1x512 (rowsOfParity 0 S1x1x512 raw bitcasts_S1x2x512_w16_S1x1x512_w32) shapeCasts_S1x1x512_S1x512
  have hi : FVec F S1x512 .bf16 := shapeCast S1x512 (rowsOfParity 1 S1x1x512 raw bitcasts_S1x2x512_w16_S1x1x512_w32) shapeCasts_S1x1x512_S1x512
  interleaveRows S16x512
    (concatenate S8x512 0 [⟨S1x512, lo⟩, ⟨S1x512, lo⟩, ⟨S1x512, lo⟩, ⟨S1x512, lo⟩, ⟨S1x512, lo⟩, ⟨S1x512, lo⟩, ⟨S1x512, lo⟩, ⟨S1x512, lo⟩] concatenates_S1x512_S1x512_S1x512_S1x512_S1x512_S1x512_S1x512_S1x512_S8x512_d0)
    (concatenate S8x512 0 [⟨S1x512, hi⟩, ⟨S1x512, hi⟩, ⟨S1x512, hi⟩, ⟨S1x512, hi⟩, ⟨S1x512, hi⟩, ⟨S1x512, hi⟩, ⟨S1x512, hi⟩, ⟨S1x512, hi⟩] concatenates_S1x512_S1x512_S1x512_S1x512_S1x512_S1x512_S1x512_S1x512_S8x512_d0)
    bitcasts_S16x512_w16_S8x512_w32

theorem tile_slices (g : Fin 16) : S256x512.Slices ![16 * g.val, 0] S16x512 := by
  revert g; decide

/-- The weights of group `g`: its sixteen rows of codes, less the zero points, times the scales. -/
def tile (v30 : FVec F S256x512 .bf16) (sraw zraw : Vec F S1x2x512 .bf16) (g : Fin 16) : FVec F S16x512 .bf16 :=
  mulf (subf (extractStridedSlice S16x512 ![16 * g.val, 0] v30 (tile_slices g)) (rep zraw)) (rep sraw)

/-- The sixteen groups' weights stacked, the scales and zero points of each read from the two scratch buffers. -/
def tiles (v30 : FVec F S256x512 .bf16) (S Z : Fin 16 → Vec F S1x2x512 .bf16) : FVec F S256x512 .bf16 :=
  concatenate S256x512 0 (List.ofFn fun g : Fin 16 => (⟨S16x512, tile v30 (S g) (Z g) g⟩ : (s : Shape) × (s.Idx → F .bf16)))
    concatenates_S16x512_S16x512_S16x512_S16x512_S16x512_S16x512_S16x512_S16x512_S16x512_S16x512_S16x512_S16x512_S16x512_S16x512_S16x512_S16x512_S256x512_d0

set_option maxHeartbeats 4000000 in
/-- A trip's result: the carried value plus the product of its activations with its weights. -/
theorem trip_eq (𝒱 : Variants) (c : Dev nD) (bd : Option 𝒱.V) (i : grid0.Coords) (arg1 : Memref sig .tc .vmem S96x5120 .bf16) (harg1 : arg1.IsWhole) (arg2 : Memref sig .tc .vmem S2560x512 .i8) (harg2 : arg2.IsWhole) (arg3 : Memref sig .tc .vmem S320x512 .bf16) (harg3 : arg3.IsWhole) (arg4 : Memref sig .tc .vmem S320x512 .i8) (harg4 : arg4.IsWhole) (arg5 : Memref sig .tc .vmem S96x512 .f32) (harg5 : arg5.IsWhole) (arg6 : Memref sig .tc .vmem S320x2x512 .bf16) (harg6 : arg6.IsWhole) (arg7 : Memref sig .tc .vmem S320x2x512 .bf16) (harg7 : arg7.IsWhole) (X_arg1 : BufTy.Contents (Elt F) arg1.view.ty) (X_arg2 : BufTy.Contents (Elt F) arg2.view.ty) (X_arg6 : BufTy.Contents (Elt F) arg6.view.ty) (X_arg7 : BufTy.Contents (Elt F) arg7.view.ty) (k : Fin k0_t1_loop.trips) (acc : FVec F S96x512 .f32) :
    tripR_k0_t1 (F := F) 𝒱 c bd i arg1 harg1 arg2 harg2 arg3 harg3 arg4 harg4 arg5 harg5 arg6 harg6 arg7 harg7 X_arg1 X_arg2 X_arg6 X_arg7 k acc
      = k0_pay6 acc
          (tiles (k0_pay7 (arg2.view.readAt (Elt F) (Rect.unit (s := S2560x512) (k0_off1 k) S128x512.size (k0_off1_inb k)).toLoadRect X_arg2))
            (fun g => arg6.view.readAt (Elt F) (Rect.unit (s := S320x2x512) (k0_off2 k (BitVec.ofNat 32 g.val)) S1x2x512.size (k0_off2_inb k g)).toLoadRect X_arg6)
            (fun g => arg7.view.readAt (Elt F) (Rect.unit (s := S320x2x512) (k0_off2 k (BitVec.ofNat 32 g.val)) S1x2x512.size (k0_off2_inb k g)).toLoadRect X_arg7))
          (arg1.view.readAt (Elt F) (Rect.unit (s := S96x5120) (k0_off3 k) S96x256.size (k0_off3_inb k)).toLoadRect X_arg1) := by
  unfold tripR_k0_t1 trip_k0_t1
  sl_unfold_run_names
  rfl

end Terms

/-! ## At an element, over the extended reals -/

theorem cat8_apply (x : FVec Ideal S1x512 .bf16) (j : S8x512.Idx) (l : Fin 512) (hl : (j 1).val = l.val) :
    concatenate S8x512 0 [⟨S1x512, x⟩, ⟨S1x512, x⟩, ⟨S1x512, x⟩, ⟨S1x512, x⟩, ⟨S1x512, x⟩, ⟨S1x512, x⟩, ⟨S1x512, x⟩, ⟨S1x512, x⟩] concatenates_S1x512_S1x512_S1x512_S1x512_S1x512_S1x512_S1x512_S1x512_S8x512_d0 j
      = x (ix2 (n0 := 1) 0 l) :=
  concatenate_replicate_apply (t := S8x512) (s₁ := S1x512) 0 8 x
    concatenates_S1x512_S1x512_S1x512_S1x512_S1x512_S1x512_S1x512_S1x512_S8x512_d0 rfl j (ix2 (n0 := 1) 0 l)
    (Nat.mod_one _).symm (fun b hb => by
      match b with
      | ⟨0, _⟩ => exact absurd rfl hb
      | ⟨1, _⟩ => exact hl.symm)

/-- The low (`p = 0`) or the high (`p = 1`) halves of one row of pairs. -/
theorem half_apply (p : Fin 2) (raw : Vec Ideal S1x2x512 .bf16) (l : Fin 512) :
    (shapeCast S1x512 (rowsOfParity p S1x1x512 raw bitcasts_S1x2x512_w16_S1x1x512_w32) shapeCasts_S1x1x512_S1x512 : FVec Ideal S1x512 .bf16) (ix2 (n0 := 1) 0 l)
      = raw (ix3 (n0 := 1) (n1 := 2) 0 p l) := by
  refine (shapeCast_dropUnit_apply ![1, 512] _ shapeCasts_S1x1x512_S1x512 (ix2 (n0 := 1) 0 l)).trans ?_
  refine congrArg raw (funext fun a => Fin.ext ?_)
  match a with
  | ⟨0, _⟩ => rfl
  | ⟨1, _⟩ => exact Nat.zero_add _
  | ⟨2, _⟩ => rfl

/-- Row `r` of sixteen is the half `r % 2` of the pair that was repeated. -/
theorem rep_apply (raw : Vec Ideal S1x2x512 .bf16) (r : Fin 16) (l : Fin 512) :
    rep raw (ix2 r l) = raw (ix3 (n0 := 1) (n1 := 2) 0 ⟨r.val % 2, Nat.mod_lt _ (by decide)⟩ l) := by
  unfold rep interleaveRows
  dsimp only
  by_cases hr : r.val % 2 = 0
  · have e : (⟨r.val % 2, Nat.mod_lt _ (by decide)⟩ : Fin 2) = 0 := Fin.ext hr
    rw [if_pos (by exact hr), cat8_apply _ _ l rfl, half_apply, e]
  · have e : (⟨r.val % 2, Nat.mod_lt _ (by decide)⟩ : Fin 2) = 1 := Fin.ext (by show r.val % 2 = 1; omega)
    rw [if_neg (by exact hr), cat8_apply _ _ l rfl, half_apply, e]

theorem tile_apply (v30 : FVec Ideal S256x512 .bf16) (sraw zraw : Vec Ideal S1x2x512 .bf16) (g r : Fin 16) (l : Fin 512) :
    tile v30 sraw zraw g (ix2 r l)
      = (v30 (ix2 (n0 := 256) ⟨16 * g.val + r.val, by omega⟩ l) - zraw (ix3 (n0 := 1) (n1 := 2) 0 ⟨r.val % 2, Nat.mod_lt _ (by decide)⟩ l))
          * sraw (ix3 (n0 := 1) (n1 := 2) 0 ⟨r.val % 2, Nat.mod_lt _ (by decide)⟩ l) := by
  unfold tile
  show (extractStridedSlice S16x512 ![16 * g.val, 0] v30 (tile_slices g) (ix2 r l) - rep zraw (ix2 r l)) * rep sraw (ix2 r l) = _
  rw [rep_apply, rep_apply]
  unfold extractStridedSlice
  congr 2
  refine congrArg v30 (funext fun a => Fin.ext ?_)
  match a with
  | ⟨0, _⟩ => rfl
  | ⟨1, _⟩ => exact Nat.zero_add _

theorem tiles_apply (v30 : FVec Ideal S256x512 .bf16) (S Z : Fin 16 → Vec Ideal S1x2x512 .bf16) (r : Fin 256) (l : Fin 512) :
    tiles v30 S Z (ix2 r l)
      = (v30 (ix2 r l) - Z ⟨r.val / 16, by omega⟩ (ix3 (n0 := 1) (n1 := 2) 0 ⟨r.val % 2, Nat.mod_lt _ (by decide)⟩ l))
          * S ⟨r.val / 16, by omega⟩ (ix3 (n0 := 1) (n1 := 2) 0 ⟨r.val % 2, Nat.mod_lt _ (by decide)⟩ l) := by
  unfold tiles
  refine (concatenate_ofFn_apply (s₁ := S16x512) (t := S256x512) 0 (fun g : Fin 16 => tile v30 (S g) (Z g) g) _ rfl 16 rfl (ix2 r l)
    ⟨r.val / 16, by omega⟩ rfl (ix2 (n0 := 16) ⟨r.val % 16, by omega⟩ l) rfl (fun b hb => by
      match b with
      | ⟨0, _⟩ => exact absurd rfl hb
      | ⟨1, _⟩ => rfl)).trans ?_
  rw [tile_apply]
  have e1 : (⟨16 * (r.val / 16) + r.val % 16, by omega⟩ : Fin 256) = r := Fin.ext (Nat.div_add_mod _ _)
  have e2 : r.val % 16 % 2 = r.val % 2 := by omega
  simp only [e1, e2]

/-- The product a trip adds, at an element. -/
theorem pay6_apply (acc : FVec Ideal S96x512 .f32) (w : FVec Ideal S256x512 .bf16) (x : Vec Ideal S96x256 .bf16) (b : Fin 96) (l : Fin 512) :
    k0_pay6 acc w x (ix2 b l) = acc (ix2 b l) + ∑ r : Fin 256, x (ix2 b r) * w (ix2 r l) := by
  unfold k0_pay6
  rw [shapeCast_self]
  refine congrArg (acc (ix2 b l) + ·) ?_
  refine (Ideal.matmul_plain_apply (M := 96) (K := 256) (N := 512) none x w _ b l).trans ?_
  show Ideal.ofBits .f32 0x00000000#32 + _ = _
  rw [Ideal.ofBits_zero_f32, zero_add]

/-- The codes of a trip: row `r` is the low (`r` even) or the high (`r` odd) half of packed row `r / 2`. -/
theorem pay7_apply (v20 : Vec Ideal S128x512 .i8) (r : Fin 256) (l : Fin 512) :
    k0_pay7 v20 (ix2 r l) = nib (r.val % 2) (v20 (ix2 (n0 := 128) ⟨r.val / 2, by omega⟩ l)) := by
  unfold k0_pay7
  have hb := bitcast_32_16 (s := S128x512) (t := S256x512)
    (ori (andi (extui 32 v20 natLt_8_32) (broadcast S128x512 15#32)) (shli (shrsi (extui 32 v20 natLt_8_32) (broadcast S128x512 4#32)) (broadcast S128x512 16#32)))
    bitcasts_S128x512_w32_S256x512_w16 (ix2 r l)
  show (((bitcast S256x512 16 _ bitcasts_S128x512_w32_S256x512_w16 (ix2 r l) : BitVec 16).toInt : ℝ) : EReal) = _
  rw [hb]
  have hi : ∀ h, bitcasts_S128x512_w32_S256x512_w16.srcIdx (ix2 r l) (Shape.row S256x512 (ix2 r l) / 2) h
      = ix2 (n0 := 128) ⟨r.val / 2, by omega⟩ l := fun h => by
    funext a
    match a with
    | ⟨0, _⟩ => rfl
    | ⟨1, _⟩ => rfl
  rw [hi]
  show ((((word (v20 (ix2 (n0 := 128) ⟨r.val / 2, by omega⟩ l))).extractLsb' (16 * (r.val % 2)) 16).toInt : ℝ) : EReal) = _
  unfold nib
  rcases Nat.mod_two_eq_zero_or_one r.val with h | h <;> rw [h]
  · rw [word_lo, if_pos rfl, Int.cast_natCast]
  · rw [word_hi, if_neg (by decide), Int.cast_natCast]

theorem lt_trips {k : Fin k0_t1_loop.trips} : k.val < 20 := Nat.lt_of_lt_of_le k.isLt k0_t1_abs.2.1

/-- A trip at an element: what was carried plus the 256 rows' contributions, when both scratch buffers hold each row of
    scales and of zero points twice. -/
theorem trip_apply (𝒱 : Variants) (c : Dev nD) (bd : Option 𝒱.V) (i : grid0.Coords) (arg1 : Memref sig .tc .vmem S96x5120 .bf16) (harg1 : arg1.IsWhole) (arg2 : Memref sig .tc .vmem S2560x512 .i8) (harg2 : arg2.IsWhole) (arg3 : Memref sig .tc .vmem S320x512 .bf16) (harg3 : arg3.IsWhole) (arg4 : Memref sig .tc .vmem S320x512 .i8) (harg4 : arg4.IsWhole) (arg5 : Memref sig .tc .vmem S96x512 .f32) (harg5 : arg5.IsWhole) (arg6 : Memref sig .tc .vmem S320x2x512 .bf16) (harg6 : arg6.IsWhole) (arg7 : Memref sig .tc .vmem S320x2x512 .bf16) (harg7 : arg7.IsWhole) (X_arg1 : BufTy.Contents (Elt Ideal) arg1.view.ty) (X_arg2 : BufTy.Contents (Elt Ideal) arg2.view.ty) (X_arg6 : BufTy.Contents (Elt Ideal) arg6.view.ty) (X_arg7 : BufTy.Contents (Elt Ideal) arg7.view.ty) (k : Fin k0_t1_loop.trips) (acc : FVec Ideal S96x512 .f32)
    (x : Vec Ideal S96x5120 .bf16) (hx : arg1.view.read (Elt Ideal) X_arg1 = x) (p : Vec Ideal S2560x512 .i8) (hp : arg2.view.read (Elt Ideal) X_arg2 = p)
    (s : Vec Ideal S320x512 .bf16) (hs : ∀ g h l, arg6.view.read (Elt Ideal) X_arg6 (ix3 g h l) = s (ix2 g l))
    (z : Vec Ideal S320x512 .i8) (hz : ∀ g h l, arg7.view.read (Elt Ideal) X_arg7 (ix3 g h l) = byte (z (ix2 g l)))
    (b : Fin 96) (l : Fin 512) :
    tripR_k0_t1 (F := Ideal) 𝒱 c bd i arg1 harg1 arg2 harg2 arg3 harg3 arg4 harg4 arg5 harg5 arg6 harg6 arg7 harg7 X_arg1 X_arg2 X_arg6 X_arg7 k acc (ix2 b l)
      = acc (ix2 b l) + ∑ r ∈ Finset.range 256, term x p s z b l (256 * k.val + r) := by
  have hk : k.val < 20 := lt_trips
  rw [trip_eq, pay6_apply]
  refine congrArg (acc (ix2 b l) + ·) ?_
  rw [← Fin.sum_univ_eq_sum_range (fun r => term x p s z b l (256 * k.val + r))]
  refine Finset.sum_congr rfl fun r _ => ?_
  have hr : r.val < 256 := r.isLt
  rw [tiles_apply, pay7_apply]
  unfold term
  have hd2 : (256 * k.val + r.val) % 2 = r.val % 2 := by omega
  rw [hd2]
  have e1 : arg1.view.readAt (Elt Ideal) (Rect.unit (s := S96x5120) (k0_off3 k) S96x256.size (k0_off3_inb k)).toLoadRect X_arg1 (ix2 b r)
      = x (ix2 b (Fin.ofNat 5120 (256 * k.val + r.val))) := by
    rw [View.readAt_apply, hx]
    refine congrArg x (funext fun a => Fin.ext ?_)
    refine ((Rect.idx_unit_val _ _ _ _ a).trans (congrArg (· + _) (congrFun (k0_off3_eq k) a))).trans ?_
    match a with
    | ⟨0, _⟩ => exact Nat.zero_add _
    | ⟨1, _⟩ => exact (show 256 * k.val + r.val = (256 * k.val + r.val) % 5120 by omega)
  have e2 : arg2.view.readAt (Elt Ideal) (Rect.unit (s := S2560x512) (k0_off1 k) S128x512.size (k0_off1_inb k)).toLoadRect X_arg2 (ix2 (n0 := 128) ⟨r.val / 2, by omega⟩ l)
      = p (ix2 (Fin.ofNat 2560 ((256 * k.val + r.val) / 2)) l) := by
    rw [View.readAt_apply, hp]
    refine congrArg p (funext fun a => Fin.ext ?_)
    refine ((Rect.idx_unit_val _ _ _ _ a).trans (congrArg (· + _) (congrFun (k0_off1_eq k) a))).trans ?_
    match a with
    | ⟨0, _⟩ => exact (show 128 * k.val + r.val / 2 = (256 * k.val + r.val) / 2 % 2560 by omega)
    | ⟨1, _⟩ => exact Nat.zero_add _
  have hrow : ∀ y : S1x2x512.Idx, y = ix3 (n0 := 1) (n1 := 2) 0 ⟨r.val % 2, Nat.mod_lt _ (by decide)⟩ l →
      (Rect.unit (s := S320x2x512) (k0_off2 k (BitVec.ofNat 32 (⟨r.val / 16, by omega⟩ : Fin 16).val)) S1x2x512.size (k0_off2_inb k ⟨r.val / 16, by omega⟩)).toLoadRect.idx y
        = ix3 (Fin.ofNat 320 ((256 * k.val + r.val) / 16)) ⟨r.val % 2, Nat.mod_lt _ (by decide)⟩ l := by
    rintro _ rfl
    refine funext fun a => Fin.ext ?_
    refine ((Rect.idx_unit_val _ _ _ _ a).trans (congrArg (· + _) (congrFun (k0_off2_eq k ⟨r.val / 16, by omega⟩) a))).trans ?_
    match a with
    | ⟨0, _⟩ => exact (show 16 * k.val + r.val / 16 + 0 = (256 * k.val + r.val) / 16 % 320 by omega)
    | ⟨1, _⟩ => exact Nat.zero_add _
    | ⟨2, _⟩ => exact Nat.zero_add _
  rw [e1, e2, View.readAt_apply, View.readAt_apply, hrow _ rfl, hs, hz]

end Cert.Proof.Trip

end
-- ==== Proof.Dense.lean ====
/-
  The dense kernel's region, read as mathematics over the extended reals. `state_apply`: before trip `n` of the loop the
  carried block holds the sums over the first `256 n` rows. `out_apply`: a grid point leaves `Spec.dense` of its blocks.
  `array_apply`: so the region leaves `Spec.dense` of the whole arrays, whatever they held when it was entered.
-/
module

public import proofs.«01_k».proof.Proof.Trip
public import Idealize.ShloMosaic.Lib.VecWindow
public import Idealize.ShloMosaic.Lib.Pipeline.ValueKit.Geometry

@[expose] public section

noncomputable section

open Idealize.ShloMosaic Idealize.ShloMosaic.TcCoe Idealize.SL.Sem Idealize.ShloMosaic.Tactic
open Idealize.ShloMosaic.ValueIdx
open Idealize.ShloMosaic.Pipeline (Dat)
open scoped BigOperators

namespace Cert.Proof.Dense

open Cert.KernelIdeal Cert.KernelIdeal.Gen Cert.Proof.Spec Cert.Proof.Trip

/-! ## The scratch buffers -/

/-- Both halves of row `g` of a doubled buffer are row `g`. -/
theorem doubled_apply (v : FVec Ideal S320x512 .bf16) (g : Fin 320) (h : Fin 2) (l : Fin 512) :
    interleaveRows S320x2x512 (shapeCast S320x1x512 v shapeCasts_S320x512_S320x1x512) (shapeCast S320x1x512 v shapeCasts_S320x512_S320x1x512)
      bitcasts_S320x2x512_w16_S320x1x512_w32 (ix3 g h l) = v (ix2 g l) := by
  unfold interleaveRows
  dsimp only
  rw [ite_self]
  refine shapeCast_apply (t := S320x1x512) v shapeCasts_S320x512_S320x1x512 _ (ix2 g l) ?_
  rw [Shape.rowMajor_val_two, Shape.rowMajor_val_three]
  have hh := h.isLt
  show g.val * 512 + l.val = (g.val * 1 + h.val / 2) * 512 + l.val
  omega

theorem pay1_apply (v : Vec Ideal S320x512 .bf16) (g : Fin 320) (h : Fin 2) (l : Fin 512) : k0_pay1 v (ix3 g h l) = v (ix2 g l) :=
  doubled_apply v g h l

theorem pay2_apply (v : Vec Ideal S320x512 .i8) (g : Fin 320) (h : Fin 2) (l : Fin 512) : k0_pay2 v (ix3 g h l) = byte (v (ix2 g l)) :=
  doubled_apply (uitofp .bf16 v) g h l

theorem pay3_apply (b : Fin 96) (l : Fin 512) : k0_pay3 (F := Ideal) (ix2 b l) = 0 := Ideal.ofBits_zero_f32

/-! ## The loop -/

theorem state_apply (𝒱 : Variants) (c : Dev nD) (bd : Option 𝒱.V) (i : grid0.Coords) (arg1 : Memref sig .tc .vmem S96x5120 .bf16) (harg1 : arg1.IsWhole) (arg2 : Memref sig .tc .vmem S2560x512 .i8) (harg2 : arg2.IsWhole) (arg3 : Memref sig .tc .vmem S320x512 .bf16) (harg3 : arg3.IsWhole) (arg4 : Memref sig .tc .vmem S320x512 .i8) (harg4 : arg4.IsWhole) (arg5 : Memref sig .tc .vmem S96x512 .f32) (harg5 : arg5.IsWhole) (arg6 : Memref sig .tc .vmem S320x2x512 .bf16) (harg6 : arg6.IsWhole) (arg7 : Memref sig .tc .vmem S320x2x512 .bf16) (harg7 : arg7.IsWhole) (X_arg1 : BufTy.Contents (Elt Ideal) arg1.view.ty) (X_arg2 : BufTy.Contents (Elt Ideal) arg2.view.ty) (X_arg6 : BufTy.Contents (Elt Ideal) arg6.view.ty) (X_arg7 : BufTy.Contents (Elt Ideal) arg7.view.ty)
    (x : Vec Ideal S96x5120 .bf16) (hx : arg1.view.read (Elt Ideal) X_arg1 = x) (p : Vec Ideal S2560x512 .i8) (hp : arg2.view.read (Elt Ideal) X_arg2 = p)
    (s : Vec Ideal S320x512 .bf16) (hs : ∀ g h l, arg6.view.read (Elt Ideal) X_arg6 (ix3 g h l) = s (ix2 g l))
    (z : Vec Ideal S320x512 .i8) (hz : ∀ g h l, arg7.view.read (Elt Ideal) X_arg7 (ix3 g h l) = byte (z (ix2 g l)))
    (b : Fin 96) (l : Fin 512) : ∀ n, n ≤ k0_t1_loop.trips →
    st_k0_t1 (F := Ideal) 𝒱 c bd i arg1 harg1 arg2 harg2 arg3 harg3 arg4 harg4 arg5 harg5 arg6 harg6 arg7 harg7 X_arg1 X_arg2 X_arg6 X_arg7 k0_pay3 n (ix2 b l)
      = ∑ d ∈ Finset.range (256 * n), term x p s z b l d
  | 0, _ => by
    rw [st_k0_t1_zero, pay3_apply]; rfl
  | n + 1, h => by
    rw [st_k0_t1_succ 𝒱 c bd i arg1 harg1 arg2 harg2 arg3 harg3 arg4 harg4 arg5 harg5 arg6 harg6 arg7 harg7 X_arg1 X_arg2 X_arg6 X_arg7 k0_pay3 ⟨n, h⟩,
      trip_apply 𝒱 c bd i arg1 harg1 arg2 harg2 arg3 harg3 arg4 harg4 arg5 harg5 arg6 harg6 arg7 harg7 X_arg1 X_arg2 X_arg6 X_arg7 ⟨n, h⟩ _ x hx p hp s hs z hz b l,
      state_apply 𝒱 c bd i arg1 harg1 arg2 harg2 arg3 harg3 arg4 harg4 arg5 harg5 arg6 harg6 arg7 harg7 X_arg1 X_arg2 X_arg6 X_arg7 x hx p hp s hs z hz b l n (Nat.le_of_lt h),
      show 256 * (n + 1) = 256 * n + 256 by ring, Finset.sum_range_add]

theorem trips_eq : Scf.trips (0#32) (Scalar.addi 0#32 20#32) 1#32 = 20 := by decide +kernel

theorem le_trips : 20 ≤ k0_t1_loop.trips := by decide +kernel

/-! ## A grid point -/

set_option maxHeartbeats 4000000 in
theorem out_apply (c : Dev nD) (i : grid0.Coords) (arg1 : Memref sig .tc .vmem S96x5120 .bf16) (harg1 : arg1.IsWhole) (arg2 : Memref sig .tc .vmem S2560x512 .i8) (harg2 : arg2.IsWhole) (arg3 : Memref sig .tc .vmem S320x512 .bf16) (harg3 : arg3.IsWhole) (arg4 : Memref sig .tc .vmem S320x512 .i8) (harg4 : arg4.IsWhole) (arg5 : Memref sig .tc .vmem S96x512 .f32) (harg5 : arg5.IsWhole) (arg6 : Memref sig .tc .vmem S320x2x512 .bf16) (harg6 : arg6.IsWhole) (arg7 : Memref sig .tc .vmem S320x2x512 .bf16) (harg7 : arg7.IsWhole)
    (x0 : Vec Ideal S96x5120 .bf16) (x1 : Vec Ideal S2560x512 .i8) (x2 : Vec Ideal S320x512 .bf16) (x3 : Vec Ideal S320x512 .i8) (b : Fin 96) (l : Fin 512) :
    out0_A_4 (F := Ideal) c i arg1 harg1 arg2 harg2 arg3 harg3 arg4 harg4 arg5 harg5 arg6 harg6 arg7 harg7 x0 x1 x2 x3 (ix2 b l) = dense x0 x1 x2 x3 b l := by
  unfold out0_A_4
  rw [View.read_writes_eq_canon _ _ _ (cover0_A_4 c i arg1 harg1 arg2 harg2 arg3 harg3 arg4 harg4 arg5 harg5 arg6 harg6 arg7 harg7 x0 x1 x2 x3)]
  unfold kernelRun0_A
  dsimp only
  sl_unfold_run_names
  rw [trips_eq]
  refine (congrFun (View.canon_cons_unit_lit inb_S96x512_S96x512_0_0 _ [] (by decide)) (ix2 b l)).trans ?_
  exact state_apply Variants.none c none i arg1 harg1 arg2 harg2 arg3 harg3 arg4 harg4 arg5 harg5 arg6 harg6 arg7 harg7 _ _ _ _
    x0 (harg1.read_unread x0) x1 (harg2.read_unread x1)
    x2 (fun g h l => by
      rw [View.read_writes_full]
      refine (pay1_apply _ g h l).trans ?_
      rw [View.readAt_full, harg3.read_unread])
    x3 (fun g h l => by
      rw [View.read_writes_full]
      refine (pay2_apply _ g h l).trans ?_
      rw [View.readAt_full, harg4.read_unread])
    b l 20 le_trips

/-! ## The region -/

variable (V : (c : Dev nD) → (b : Ref sig .tc) → Buf (Elt Ideal) ((c : Thread nD τ).loc b))

theorem index0 : ∀ t : Fin cfg0.N, win0_0.index t = ![0, 0] := (by decide +kernel : ∀ t : Fin grid0.N, win0_0.index t = ![0, 0])
theorem index1 : ∀ t : Fin cfg0.N, win0_1.index t = ![0, t.val] := (by decide +kernel : ∀ t : Fin grid0.N, win0_1.index t = ![0, t.val])
theorem index2 : ∀ t : Fin cfg0.N, win0_2.index t = ![0, t.val] := (by decide +kernel : ∀ t : Fin grid0.N, win0_2.index t = ![0, t.val])
theorem index3 : ∀ t : Fin cfg0.N, win0_3.index t = ![0, t.val] := (by decide +kernel : ∀ t : Fin grid0.N, win0_3.index t = ![0, t.val])
theorem index4 : ∀ t : Fin cfg0.N, win0_4.index t = ![0, t.val] := (by decide +kernel : ∀ t : Fin grid0.N, win0_4.index t = ![0, t.val])

theorem point_lt (t : Fin cfg0.N) : t.val < 108 := Nat.lt_of_lt_of_le t.isLt (by decide +kernel : grid0.N ≤ 108)

/-- Column `l` of point `t`'s blocks. -/
def col (t : Fin cfg0.N) (l : Fin 512) : Fin 55296 := ⟨t.val * 512 + l.val, by have := point_lt t; omega⟩

theorem blk0_apply (c : Dev nD) (t : Fin cfg0.N) (b : Fin 96) (d : Fin 5120) :
    iblk0 V c 0 t (ix2 (n0 := 96) (n1 := 5120) b d) = V c main_v0 (ix2 (n0 := 96) (n1 := 5120) b d) := by
  blk_simp [iblk0]
  refine congrArg (V c main_v0) (funext fun a => Fin.ext ?_)
  match a with
  | ⟨0, _⟩ => blk_simp [index0]
  | ⟨1, _⟩ => blk_simp [index0]

theorem blk1_apply (c : Dev nD) (t : Fin cfg0.N) (q : Fin 2560) (l : Fin 512) :
    iblk0 V c 1 t (ix2 (n0 := 2560) (n1 := 512) q l) = V c main_arg1 (ix2 (n0 := 2560) (n1 := 55296) q (col t l)) := by
  blk_simp [iblk0]
  refine congrArg (V c main_arg1) (funext fun a => Fin.ext ?_)
  match a with
  | ⟨0, _⟩ => blk_simp [index1]
  | ⟨1, _⟩ => blk_simp [index1]; rfl

theorem blk2_apply (c : Dev nD) (t : Fin cfg0.N) (q : Fin 320) (l : Fin 512) :
    iblk0 V c 2 t (ix2 (n0 := 320) (n1 := 512) q l) = V c main_arg2 (ix2 (n0 := 320) (n1 := 55296) q (col t l)) := by
  blk_simp [iblk0]
  refine congrArg (V c main_arg2) (funext fun a => Fin.ext ?_)
  match a with
  | ⟨0, _⟩ => blk_simp [index2]
  | ⟨1, _⟩ => blk_simp [index2]; rfl

theorem blk3_apply (c : Dev nD) (t : Fin cfg0.N) (q : Fin 320) (l : Fin 512) :
    iblk0 V c 3 t (ix2 (n0 := 320) (n1 := 512) q l) = V c main_arg3 (ix2 (n0 := 320) (n1 := 55296) q (col t l)) := by
  blk_simp [iblk0]
  refine congrArg (V c main_arg3) (funext fun a => Fin.ext ?_)
  match a with
  | ⟨0, _⟩ => blk_simp [index3]
  | ⟨1, _⟩ => blk_simp [index3]; rfl

/-- What point `t` leaves, at an element of its block. -/
theorem point_apply (c : Dev nD) (t : Fin cfg0.N) (b : Fin 96) (l : Fin 512) :
    outsAt0 V c t (ix2 (n0 := 96) (n1 := 512) b l)
      = dense (N := 55296) (V c main_v0) (V c main_arg1) (V c main_arg2) (V c main_arg3) b (col t l) := by
  unfold outsAt0
  refine (out_apply _ _ _ _ _ _ _ _ _ _ _ _ _ _ _ _ _ _ _ _ b l).trans ?_
  unfold dense
  refine Finset.sum_congr rfl fun d _ => ?_
  unfold term
  rw [blk0_apply V c t, blk1_apply V c t, blk2_apply V c t, blk3_apply V c t]

/-- What the region leaves: the product of its activations with its unpacked weights. -/
theorem array_eq (c : Dev nD) : (dat0 V c).arrAt 4 cfg0.N
    = fun j : S96x55296.Idx => dense (N := 55296) (V c main_v0) (V c main_arg1) (V c main_arg2) (V c main_arg3) (j 0) (j 1) := by
  refine (dat0 V c).arrAt_eq_of_covers 4 _ (by decide +kernel) fun t hf y => ?_
  blk_simp
  rw [after0_4]
  obtain ⟨b, l, rfl⟩ : ∃ (b : Fin 96) (l : Fin 512), y = ix2 b l := ⟨_, _, eq_ix2 (n0 := 96) (n1 := 512) y⟩
  refine (point_apply V c t b l).trans ?_
  have h0 : (win0_4.blk t).view.emb (ix2 (n0 := 96) (n1 := 512) b l) 0 = b := Fin.ext (by blk_simp [index4]; rfl)
  have h1 : (win0_4.blk t).view.emb (ix2 (n0 := 96) (n1 := 512) b l) 1 = col t l := Fin.ext (by blk_simp [index4]; rfl)
  rw [h0, h1]

end Cert.Proof.Dense

end
-- ==== Proof.Merge.lean ====
/-
  The merge kernel's region, read as mathematics over the extended reals: column `128 j + l` of the result is the dense
  product there plus the sparse sum of column block `j`, lane `l`, whatever the arrays held when the region was entered.
-/
module

public import proofs.«01_k».proof.Proof.Gen.KernelIdeal.Frame
public import Idealize.ShloMosaic.Lib.Pipeline.Value
public import Idealize.ShloMosaic.Lib.Pipeline.ValueKit.Geometry
public import Idealize.ShloMosaic.Lib.Pipeline.ValueKit.Tiles
public import Idealize.ShloMosaic.Lib.ValueIdx

@[expose] public section

noncomputable section

open Idealize.ShloMosaic Idealize.ShloMosaic.TcCoe Idealize.SL.Sem Idealize.ShloMosaic.Tactic
open Idealize.ShloMosaic.ValueIdx
open Idealize.ShloMosaic.Pipeline (Dat)

namespace Cert.Proof.Merge

open Cert.KernelIdeal Cert.KernelIdeal.Gen

/-- One lane block's payload at an element. -/
theorem pay_apply (v : Vec Ideal S96x128 .f32) (w : Vec Ideal S1x96x128 .f32) (y : S96x128.Idx) :
    k1_pay1 v w y = v y + w (ix3 (n0 := 1) (n1 := 96) (n2 := 128) 0 (y 0) (y 1)) := by
  unfold k1_pay1
  rw [shapeCast_self]
  refine congrArg (v y + ·) ((shapeCast_dropUnit_apply ![96, 128] w shapeCasts_S1x96x128_S96x128 y).trans (congrArg w (funext fun a => ?_)))
  match a with
  | ⟨0, _⟩ => rfl
  | ⟨1, _⟩ => rfl
  | ⟨2, _⟩ => rfl

/-- A grid point's block at an element: sixteen lane blocks side by side. -/
theorem out_apply (x0 : Vec Ideal S96x2048 .f32) (x1 : Vec Ideal S16x96x128 .f32) (b : Fin 96) (l : Fin 2048) :
    out1_2 x0 x1 (ix2 b l) = x0 (ix2 b l) + x1 (ix3 (n0 := 16) (n1 := 96) (n2 := 128) ⟨l.val / 128, by omega⟩ b ⟨l.val % 128, Nat.mod_lt _ (by decide)⟩) := by
  have hl := l.isLt
  canon_tiles x h using cover1_2 ..
  all_goals
    have hb : b.val = (x 0).val := h0
    have hx : (x 1).val < 128 := x1_lt
    refine (pay_apply _ _ x).trans ?_
    refine congrArg₂ (· + ·) (View.ld_unit_apply_of x0 _ _ _ x (ix2 b l) fun a => ?_)
      (View.ld_unit_apply_of x1 _ _ _ (ix3 (n0 := 1) (n1 := 96) (n2 := 128) 0 (x 0) (x 1)) _ fun a => ?_)
    · match a with
      | ⟨0, _⟩ => exact hb.trans (Nat.zero_add _).symm
      | ⟨1, _⟩ => first | exact h1 | exact h1.trans (Nat.zero_add _).symm
    · match a with
      | ⟨0, _⟩ =>
        first
        | exact (show l.val / 128 = 0 + 0 by have : l.val = (x 1).val := h1; omega)
        | exact (show l.val / 128 = 1 + 0 by have : l.val = 128 + (x 1).val := h1; omega)
        | exact (show l.val / 128 = 2 + 0 by have : l.val = 256 + (x 1).val := h1; omega)
        | exact (show l.val / 128 = 3 + 0 by have : l.val = 384 + (x 1).val := h1; omega)
        | exact (show l.val / 128 = 4 + 0 by have : l.val = 512 + (x 1).val := h1; omega)
        | exact (show l.val / 128 = 5 + 0 by have : l.val = 640 + (x 1).val := h1; omega)
        | exact (show l.val / 128 = 6 + 0 by have : l.val = 768 + (x 1).val := h1; omega)
        | exact (show l.val / 128 = 7 + 0 by have : l.val = 896 + (x 1).val := h1; omega)
        | exact (show l.val / 128 = 8 + 0 by have : l.val = 1024 + (x 1).val := h1; omega)
        | exact (show l.val / 128 = 9 + 0 by have : l.val = 1152 + (x 1).val := h1; omega)
        | exact (show l.val / 128 = 10 + 0 by have : l.val = 1280 + (x 1).val := h1; omega)
        | exact (show l.val / 128 = 11 + 0 by have : l.val = 1408 + (x 1).val := h1; omega)
        | exact (show l.val / 128 = 12 + 0 by have : l.val = 1536 + (x 1).val := h1; omega)
        | exact (show l.val / 128 = 13 + 0 by have : l.val = 1664 + (x 1).val := h1; omega)
        | exact (show l.val / 128 = 14 + 0 by have : l.val = 1792 + (x 1).val := h1; omega)
        | exact (show l.val / 128 = 15 + 0 by have : l.val = 1920 + (x 1).val := h1; omega)
      | ⟨1, _⟩ => exact hb.trans (Nat.zero_add _).symm
      | ⟨2, _⟩ =>
        have e : l.val % 128 = (x 1).val := by
          have hlv : (ix2 b l 1).val = l.val := rfl
          omega
        exact e.trans (Nat.zero_add _).symm

/-! ## The region -/

variable (V : (c : Dev nD) → (b : Ref sig .tc) → Buf (Elt Ideal) ((c : Thread nD τ).loc b))

theorem index0 : ∀ t : Fin cfg1.N, win1_0.index t = ![0, t.val] := (by decide +kernel : ∀ t : Fin grid1.N, win1_0.index t = ![0, t.val])
theorem index1 : ∀ t : Fin cfg1.N, win1_1.index t = ![t.val, 0, 0] := (by decide +kernel : ∀ t : Fin grid1.N, win1_1.index t = ![t.val, 0, 0])
theorem index2 : ∀ t : Fin cfg1.N, win1_2.index t = ![0, t.val] := (by decide +kernel : ∀ t : Fin grid1.N, win1_2.index t = ![0, t.val])

theorem point_lt (t : Fin cfg1.N) : t.val < 27 := Nat.lt_of_lt_of_le t.isLt (by decide +kernel : grid1.N ≤ 27)

/-- Column `l` of point `t`'s blocks. -/
def col (t : Fin cfg1.N) (l : Fin 2048) : Fin 55296 := ⟨t.val * 2048 + l.val, by have := point_lt t; omega⟩

theorem blk0_apply (c : Dev nD) (t : Fin cfg1.N) (b : Fin 96) (l : Fin 2048) :
    iblk1 V c 0 t (ix2 (n0 := 96) (n1 := 2048) b l) = V c main_v1 (ix2 (n0 := 96) (n1 := 55296) b (col t l)) := by
  blk_simp [iblk1]
  refine congrArg (V c main_v1) (funext fun a => Fin.ext ?_)
  match a with
  | ⟨0, _⟩ => blk_simp [index0]
  | ⟨1, _⟩ => blk_simp [index0]; rfl

theorem blk1_apply (c : Dev nD) (t : Fin cfg1.N) (j : Fin 16) (b : Fin 96) (l : Fin 128) :
    iblk1 V c 1 t (ix3 (n0 := 16) (n1 := 96) (n2 := 128) j b l)
      = V c main_arg4 (ix3 (n0 := 432) (n1 := 96) (n2 := 128) ⟨t.val * 16 + j.val, by have := point_lt t; omega⟩ b l) := by
  blk_simp [iblk1]
  refine congrArg (V c main_arg4) (funext fun a => Fin.ext ?_)
  match a with
  | ⟨0, _⟩ => blk_simp [index1]
  | ⟨1, _⟩ => blk_simp [index1]
  | ⟨2, _⟩ => blk_simp [index1]

/-- The merged result at an element, from the dense product `d` and the sparse sums `s`. -/
def merged (d : S96x55296.Idx → EReal) (s : S432x96x128.Idx → EReal) (b : Fin 96) (n : Fin 55296) : EReal :=
  d (ix2 b n) + s (ix3 (n0 := 432) (n1 := 96) (n2 := 128) ⟨n.val / 128, by omega⟩ b ⟨n.val % 128, Nat.mod_lt _ (by decide)⟩)

theorem point_apply (c : Dev nD) (t : Fin cfg1.N) (b : Fin 96) (l : Fin 2048) :
    out1_2 (iblk1 V c 0 t) (iblk1 V c 1 t) (ix2 (n0 := 96) (n1 := 2048) b l) = merged (V c main_v1) (V c main_arg4) b (col t l) := by
  refine (out_apply _ _ b l).trans ?_
  rw [blk0_apply V c t, blk1_apply V c t]
  unfold merged
  refine congrArg (HAdd.hAdd (α := EReal) (β := EReal) (γ := EReal) _) (congrArg (V c main_arg4) (funext fun a => Fin.ext ?_))
  match a with
  | ⟨0, _⟩ => exact (show t.val * 16 + l.val / 128 = (t.val * 2048 + l.val) / 128 by omega)
  | ⟨1, _⟩ => rfl
  | ⟨2, _⟩ => exact (show l.val % 128 = (t.val * 2048 + l.val) % 128 by omega)

theorem array_eq (c : Dev nD) : (dat1 V c).arrAt 2 cfg1.N = fun j : S96x55296.Idx => merged (V c main_v1) (V c main_arg4) (j 0) (j 1) := by
  refine (dat1 V c).arrAt_eq_of_covers 2 _ (by decide +kernel) fun t hf y => ?_
  blk_simp
  rw [after1_2]
  obtain ⟨b, l, rfl⟩ : ∃ (b : Fin 96) (l : Fin 2048), y = ix2 b l := ⟨_, _, eq_ix2 (n0 := 96) (n1 := 2048) y⟩
  refine (point_apply V c t b l).trans ?_
  have h0 : (win1_2.blk t).view.emb (ix2 (n0 := 96) (n1 := 2048) b l) 0 = b := Fin.ext (by blk_simp [index2]; rfl)
  have h1 : (win1_2.blk t).view.emb (ix2 (n0 := 96) (n1 := 2048) b l) 1 = col t l := Fin.ext (by blk_simp [index2]; rfl)
  rw [h0, h1]

end Cert.Proof.Merge

end
-- ==== Proof.KernelRun.lean ====
/-
  The kernel's run over the extended reals, with its result named: the run through both regions, as the frame has it,
  with the result array read off too. Then the arrays each region is entered with, back to the arguments.
-/
module

public import proofs.«01_k».proof.Proof.Gen.KernelIdeal.Frame
public import Idealize.ShloMosaic.Lib.StableHlo.Run
public import proofs.«01_k».proof.Proof.Dense
public import proofs.«01_k».proof.Proof.Merge

@[expose] public section

set_option maxRecDepth 16384

noncomputable section

namespace Cert.Proof.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run, its result the second region's array after the last grid point, its arguments unchanged. -/
theorem run : θ_run defs (onTc (τ := τ) (main (F := Ideal))) ⟨m, fun _ => 0, ρ⟩ (fun r => ∀ c : Dev nD,
      r.2.mem ((c.tc : Thread nD τ).loc main_v2) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v2 (by decide))).trans (W3_arr m ρ c 2),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

open Idealize.ShloMosaic.ValueIdx

/-- The first region is entered with the activations as a matrix. -/
theorem V1_main_v0 (c : Dev nD) :
    V1 m ρ c main_v0 = fun j : S96x5120.Idx => m ((c.tc : Thread nD τ).loc main_arg0) (ix3 (n0 := 96) (n1 := 1) (n2 := 5120) (j 0) 0 (j 1)) := by
  have h : V1 m ρ c main_v0 = shapeCast S96x5120 (m ((c.tc : Thread nD τ).loc main_arg0)) Facts₀.shapeCasts_S96x1x5120_S96x5120 := by
    show StableHlo.after hostOps0 (W0 m ρ c) (Proc.devRef (τ := τ) .tc main_v0) = _
    after_results_simp <;> rfl
  rw [h]
  funext j
  obtain ⟨b, d, rfl⟩ : ∃ (b : Fin 96) (d : Fin 5120), j = ix2 b d := ⟨_, _, eq_ix2 (n0 := 96) (n1 := 5120) j⟩
  refine shapeCast_apply (t := S96x5120) _ _ (ix2 b d) (ix3 (n0 := 96) (n1 := 1) (n2 := 5120) b 0 d) ?_
  rw [Shape.rowMajor_val_two, Shape.rowMajor_val_three]
  show (b.val * 1 + 0) * 5120 + d.val = b.val * 5120 + d.val
  omega

theorem V1_arg (c : Dev nD) (a : Ref sig .tc) (h : a ∈ argRefs) : V1 m ρ c a = m ((c : Thread nD τ).loc a) := W1_args m ρ c a h

/-- The second region is entered with what the first left. -/
theorem V2_main_v1 (c : Dev nD) : V2 m ρ c main_v1 = (dat0 (V1 m ρ) c).arrAt 4 cfg0.N := W2_arr m ρ c 4

theorem V2_arg (c : Dev nD) (a : Ref sig .tc) (h : a ∈ argRefs) : V2 m ρ c a = m ((c : Thread nD τ).loc a) := W2_args m ρ c a h

/-- The kernel's result at every element, in the arguments: the dense product plus the sparse sum. -/
theorem value (c : Dev nD) :
    (dat1 (V2 m ρ) c).arrAt 2 cfg1.N = fun j : S96x55296.Idx =>
      Spec.dense (N := 55296) (fun j => m ((c.tc : Thread nD τ).loc main_arg0) (ix3 (n0 := 96) (n1 := 1) (n2 := 5120) (j 0) 0 (j 1)))
        (m ((c.tc : Thread nD τ).loc main_arg1)) (m ((c.tc : Thread nD τ).loc main_arg2)) (m ((c.tc : Thread nD τ).loc main_arg3)) (j 0) (j 1)
      + m ((c.tc : Thread nD τ).loc main_arg4) (ix3 (n0 := 432) (n1 := 96) (n2 := 128) ⟨(j 1).val / 128, by have h : (j 1).val < 55296 := (j 1).isLt; omega⟩ (j 0) ⟨(j 1).val % 128, Nat.mod_lt _ (by decide)⟩) := by
  rw [Merge.array_eq (V2 m ρ) c, V2_main_v1, V2_arg m ρ c main_arg4 (by decide), Dense.array_eq (V1 m ρ) c, V1_main_v0,
    V1_arg m ρ c main_arg1 (by decide), V1_arg m ρ c main_arg2 (by decide), V1_arg m ρ c main_arg3 (by decide)]
  rfl

end Cert.Proof.KernelRun

end
-- ==== Proof.Reference.lean ====
/-
  The reference's result, read as mathematics over the extended reals: at row `b`, column `n` it is the sum over the
  even and the sum over the odd rows of the weights, together `Spec.dense`, plus the sparse sum of that element.
-/
module

public import proofs.«01_k».proof.Proof.Gen.ReferenceIdeal.Run
public import proofs.«01_k».proof.Proof.Spec
public import Idealize.ShloMosaic.Lib.Pipeline.Value
public import Idealize.ShloMosaic.Lib.ValueIdx

@[expose] public section

noncomputable section

open Idealize.ShloMosaic Idealize.ShloMosaic.ValueIdx
open scoped BigOperators

namespace Cert.Proof.Reference

open Cert.ReferenceIdeal Cert.ReferenceIdeal.Gen Cert.Proof.Spec

/-- The activations as a matrix. -/
def flat (x : S96x1x5120.Idx → EReal) : (⟨2, ![96, 5120]⟩ : Shape).Idx → EReal :=
  fun j => x (ix3 (n0 := 96) (n1 := 1) (n2 := 5120) (j 0) 0 (j 1))

/-- A matrix of group values, one row for each group's eight rows. -/
def spread {F : FTy → Type} (v : FVec F S320x55296 .bf16) : FVec F S320x8x55296 .bf16 :=
  broadcastInDim S320x8x55296 ![0, 1, 2] bcast_S320x1x55296_S320x8x55296_0_1_2 (broadcastInDim S320x1x55296 ![0, 2] bcast_S320x55296_S320x1x55296_0_2 v)

/-- The weights of half the rows: the codes less their group's zero point, times its scale. -/
def weights {F : FTy → Type} [FloatOps F] (codes : FVec F S2560x55296 .bf16) (z s : FVec F S320x55296 .bf16) : FVec F S2560x55296 .bf16 :=
  shapeCast _ (mulf (subf (shapeCast _ codes shapeCasts_S2560x55296_S320x8x55296) (spread z)) (spread s)) shapeCasts_S320x8x55296_S2560x55296

/-- The reference's result, as its run leaves it. -/
def result {F : FTy → Type} [FloatOps F] (x : Vec F S96x1x5120 .bf16) (p : Vec F S2560x55296 .i8) (s : Vec F S320x55296 .bf16)
    (z : Vec F S320x55296 .i8) (sp : Vec F S432x96x128 .f32) : Vec F S96x55296 .bf16 :=
  truncf .bf16 (addf (shapeCast _ (addf
      (Host.dotGeneral dot_S96x1x2560_S2560x55296_S96x1x55296_2_0_01_1_n_n none (Host.slice S96x1x2560 ![0, 0, 0] ![1, 1, 2] x slicesBy_S96x1x5120_S96x1x2560_0s1_0s1_0s2)
        (weights (sitofp .bf16 (andi (extui 32 p natLt_8_32) (broadcastInDim S2560x55296 ![] bcast_S_S2560x55296 (constantI S_ 32 15#32)))) (sitofp .bf16 (extui 32 z natLt_8_32)) s))
      (Host.dotGeneral dot_S96x1x2560_S2560x55296_S96x1x55296_2_0_01_1_n_n none (Host.slice S96x1x2560 ![0, 0, 1] ![1, 1, 2] x slicesBy_S96x1x5120_S96x1x2560_0s1_0s1_1s2)
        (weights (sitofp .bf16 (Host.shrsi (extui 32 p natLt_8_32) (broadcastInDim S2560x55296 ![] bcast_S_S2560x55296 (constantI S_ 32 4#32)))) (sitofp .bf16 (extui 32 z natLt_8_32)) s)))
      shapeCasts_S96x1x55296_S96x55296)
    (shapeCast _ (transpose S96x432x128 [1, 0, 2] sp transposes_S432x96x128_S96x432x128_1_0_2) shapeCasts_S96x432x128_S96x55296)) bitsLt_bf16_f32

theorem spread_apply (v : FVec Ideal S320x55296 .bf16) (g : Fin 320) (h : Fin 8) (n : Fin 55296) :
    spread v (ix3 g h n) = v (ix2 g n) := by
  unfold spread
  refine (broadcastInDim_apply (s := S320x1x55296) (t := S320x8x55296) _ _ _ (ix3 g h n) (ix3 (n0 := 320) (n1 := 1) (n2 := 55296) g 0 n) (fun a => ?_)).trans ?_
  · match a with
    | ⟨0, _⟩ => rfl
    | ⟨1, _⟩ => rfl
    | ⟨2, _⟩ => rfl
  · refine broadcastInDim_apply (s := S320x55296) (t := S320x1x55296) _ _ v _ (ix2 g n) (fun a => ?_)
    match a with
    | ⟨0, _⟩ => rfl
    | ⟨1, _⟩ => rfl

theorem weights_apply (codes : FVec Ideal S2560x55296 .bf16) (z s : FVec Ideal S320x55296 .bf16) (q : Fin 2560) (n : Fin 55296) :
    weights codes z s (ix2 q n) = (codes (ix2 q n) - z (ix2 (n0 := 320) ⟨q.val / 8, by omega⟩ n)) * s (ix2 (n0 := 320) ⟨q.val / 8, by omega⟩ n) := by
  unfold weights
  have e := Nat.div_add_mod q.val 8
  refine (shapeCast_apply (t := S2560x55296) _ shapeCasts_S320x8x55296_S2560x55296 (ix2 q n)
    (ix3 (n0 := 320) (n1 := 8) (n2 := 55296) ⟨q.val / 8, by omega⟩ ⟨q.val % 8, Nat.mod_lt _ (by decide)⟩ n) ?_).trans ?_
  · rw [Shape.rowMajor_val_two, Shape.rowMajor_val_three]
    show (q.val / 8 * 8 + q.val % 8) * 55296 + n.val = q.val * 55296 + n.val
    omega
  · show (shapeCast S320x8x55296 codes shapeCasts_S2560x55296_S320x8x55296 _ - spread z _) * spread s _ = _
    rw [spread_apply, spread_apply]
    congr 2
    refine shapeCast_apply (t := S320x8x55296) codes shapeCasts_S2560x55296_S320x8x55296 _ (ix2 q n) ?_
    rw [Shape.rowMajor_val_two, Shape.rowMajor_val_three]
    show q.val * 55296 + n.val = (q.val / 8 * 8 + q.val % 8) * 55296 + n.val
    omega

/-- The reference's product at an element. -/
theorem dot_apply (A : FVec Ideal S96x1x2560 .bf16) (B : FVec Ideal S2560x55296 .bf16) (b : Fin 96) (n : Fin 55296) :
    Host.dotGeneral dot_S96x1x2560_S2560x55296_S96x1x55296_2_0_01_1_n_n none A B (ix3 (n0 := 96) (n1 := 1) (n2 := 55296) b 0 n)
      = ∑ q : Fin 2560, A (ix3 (n0 := 96) (n1 := 1) (n2 := 2560) b 0 q) * B (ix2 q n) := by
  show FloatOps.dotGeneral _ none _ A B (ix3 (n0 := 96) (n1 := 1) (n2 := 55296) b 0 n) = _
  rw [Ideal.dotGeneral_apply, ← Equiv.sum_comp (contrEquiv1 dot_S96x1x2560_S2560x55296_S96x1x55296_2_0_01_1_n_n 2560 rfl rfl).symm]
  refine Finset.sum_congr rfl fun q _ => ?_
  have cq := contrEquiv1_symm_val dot_S96x1x2560_S2560x55296_S96x1x55296_2_0_01_1_n_n 2560 rfl rfl q
  have el : dot_S96x1x2560_S2560x55296_S96x1x55296_2_0_01_1_n_n.lhsIdx (ix3 (n0 := 96) (n1 := 1) (n2 := 55296) b 0 n)
      ((contrEquiv1 _ 2560 rfl rfl).symm q) = ix3 (n0 := 96) (n1 := 1) (n2 := 2560) b 0 q := by
    funext ax; apply Fin.ext
    match ax with
    | ⟨0, _⟩ => simp [DotDims.lhsIdx, dot_S96x1x2560_S2560x55296_S96x1x55296_2_0_01_1_n_n]; rfl
    | ⟨1, _⟩ => simp [DotDims.lhsIdx, dot_S96x1x2560_S2560x55296_S96x1x55296_2_0_01_1_n_n]
    | ⟨2, _⟩ => simp [DotDims.lhsIdx, dot_S96x1x2560_S2560x55296_S96x1x55296_2_0_01_1_n_n]; exact cq
  have er : dot_S96x1x2560_S2560x55296_S96x1x55296_2_0_01_1_n_n.rhsIdx (ix3 (n0 := 96) (n1 := 1) (n2 := 55296) b 0 n)
      ((contrEquiv1 _ 2560 rfl rfl).symm q) = ix2 q n := by
    funext ax; apply Fin.ext
    match ax with
    | ⟨0, _⟩ => simp [DotDims.rhsIdx, dot_S96x1x2560_S2560x55296_S96x1x55296_2_0_01_1_n_n]; exact cq
    | ⟨1, _⟩ => simp [DotDims.rhsIdx, dot_S96x1x2560_S2560x55296_S96x1x55296_2_0_01_1_n_n]; rfl
  rw [el, er]

/-- The even columns of the activations. -/
theorem even_apply (x : FVec Ideal S96x1x5120 .bf16) (b : Fin 96) (q : Fin 2560) :
    Host.slice S96x1x2560 ![0, 0, 0] ![1, 1, 2] x slicesBy_S96x1x5120_S96x1x2560_0s1_0s1_0s2 (ix3 (n0 := 96) (n1 := 1) (n2 := 2560) b 0 q)
      = flat x (ix2 b (Fin.ofNat 5120 (2 * q.val))) := by
  unfold Host.slice flat
  refine congrArg x (funext fun a => Fin.ext ?_)
  match a with
  | ⟨0, _⟩ => exact (show 0 + 1 * b.val = b.val by omega)
  | ⟨1, _⟩ => rfl
  | ⟨2, _⟩ => exact (show 0 + 2 * q.val = 2 * q.val % 5120 by omega)

/-- The odd columns of the activations. -/
theorem odd_apply (x : FVec Ideal S96x1x5120 .bf16) (b : Fin 96) (q : Fin 2560) :
    Host.slice S96x1x2560 ![0, 0, 1] ![1, 1, 2] x slicesBy_S96x1x5120_S96x1x2560_0s1_0s1_1s2 (ix3 (n0 := 96) (n1 := 1) (n2 := 2560) b 0 q)
      = flat x (ix2 b (Fin.ofNat 5120 (2 * q.val + 1))) := by
  unfold Host.slice flat
  refine congrArg x (funext fun a => Fin.ext ?_)
  match a with
  | ⟨0, _⟩ => exact (show 0 + 1 * b.val = b.val by omega)
  | ⟨1, _⟩ => rfl
  | ⟨2, _⟩ => exact (show 1 + 2 * q.val = (2 * q.val + 1) % 5120 by omega)

/-- The low halves as numbers. -/
theorem lo_apply (p : Vec Ideal S2560x55296 .i8) (j : S2560x55296.Idx) :
    (sitofp .bf16 (andi (extui 32 p natLt_8_32) (broadcastInDim S2560x55296 ![] bcast_S_S2560x55296 (constantI S_ 32 15#32))) : FVec Ideal S2560x55296 .bf16) j
      = nib 0 (p j) := by
  show (((IntOp.andi ((p j).setWidth 32) 15#32).toInt : ℝ) : EReal) = _
  rw [and_lo]
  unfold nib
  rw [if_pos rfl, Int.cast_natCast]

/-- The high halves as numbers. -/
theorem hi_apply (p : Vec Ideal S2560x55296 .i8) (j : S2560x55296.Idx) :
    (sitofp .bf16 (Host.shrsi (extui 32 p natLt_8_32) (broadcastInDim S2560x55296 ![] bcast_S_S2560x55296 (constantI S_ 32 4#32))) : FVec Ideal S2560x55296 .bf16) j
      = nib 1 (p j) := by
  show (((IntOp.shrsi .host ((p j).setWidth 32) 4#32).toInt : ℝ) : EReal) = _
  rw [shift_hi]
  unfold nib
  rw [if_neg (by decide), Int.cast_natCast]

/-- The zero points as numbers. -/
theorem zero_apply (z : Vec Ideal S320x55296 .i8) (j : S320x55296.Idx) :
    (sitofp .bf16 (extui 32 z natLt_8_32) : FVec Ideal S320x55296 .bf16) j = byte (z j) := by
  show ((((z j).setWidth 32).toInt : ℝ) : EReal) = _
  rw [widen]
  unfold byte
  rw [Int.cast_natCast]

/-- The sparse sums at an element: column block `n / 128`, lane `n % 128`. -/
theorem sparse_apply (sp : FVec Ideal S432x96x128 .f32) (b : Fin 96) (n : Fin 55296) :
    shapeCast S96x55296 (transpose S96x432x128 [1, 0, 2] sp transposes_S432x96x128_S96x432x128_1_0_2) shapeCasts_S96x432x128_S96x55296 (ix2 b n)
      = sp (ix3 (n0 := 432) (n1 := 96) (n2 := 128) ⟨n.val / 128, by omega⟩ b ⟨n.val % 128, Nat.mod_lt _ (by decide)⟩) := by
  have e := Nat.div_add_mod n.val 128
  refine (shapeCast_apply (t := S96x55296) _ shapeCasts_S96x432x128_S96x55296 (ix2 b n)
    (ix3 (n0 := 96) (n1 := 432) (n2 := 128) b ⟨n.val / 128, by omega⟩ ⟨n.val % 128, Nat.mod_lt _ (by decide)⟩) ?_).trans ?_
  · rw [Shape.rowMajor_val_two, Shape.rowMajor_val_three]
    show (b.val * 432 + n.val / 128) * 128 + n.val % 128 = b.val * 55296 + n.val
    omega
  · refine transpose_apply (s := S432x96x128) (t := S96x432x128) _ sp _ _ _ (fun a => ?_)
    match a with
    | ⟨0, _⟩ => rfl
    | ⟨1, _⟩ => rfl
    | ⟨2, _⟩ => rfl

/-- The reference at an element. -/
theorem result_apply (x : Vec Ideal S96x1x5120 .bf16) (p : Vec Ideal S2560x55296 .i8) (s : Vec Ideal S320x55296 .bf16)
    (z : Vec Ideal S320x55296 .i8) (sp : Vec Ideal S432x96x128 .f32) (b : Fin 96) (n : Fin 55296) :
    result x p s z sp (ix2 b n) = dense (N := 55296) (flat x) p s z b n
      + sp (ix3 (n0 := 432) (n1 := 96) (n2 := 128) ⟨n.val / 128, by omega⟩ b ⟨n.val % 128, Nat.mod_lt _ (by decide)⟩) := by
  unfold result
  refine congrArg₂ (HAdd.hAdd (α := EReal) (β := EReal) (γ := EReal)) ?_ (sparse_apply sp b n)
  refine (shapeCast_apply (t := S96x55296) _ shapeCasts_S96x1x55296_S96x55296 (ix2 b n) (ix3 (n0 := 96) (n1 := 1) (n2 := 55296) b 0 n) ?_).trans ?_
  · rw [Shape.rowMajor_val_two, Shape.rowMajor_val_three]
    show (b.val * 1 + 0) * 55296 + n.val = b.val * 55296 + n.val
    omega
  · rw [dense_split]
    refine congrArg₂ (HAdd.hAdd (α := EReal) (β := EReal) (γ := EReal)) ((dot_apply _ _ b n).trans (Finset.sum_congr rfl fun q _ => ?_))
      ((dot_apply _ _ b n).trans (Finset.sum_congr rfl fun q _ => ?_))
    · rw [even_apply, weights_apply, lo_apply, zero_apply]
      unfold term
      have h0 : 2 * q.val % 2 = 0 := by omega
      have h1 : Fin.ofNat 2560 (2 * q.val / 2) = q := Fin.ext (show 2 * q.val / 2 % 2560 = q.val by omega)
      have h2 : Fin.ofNat 320 (2 * q.val / 16) = ⟨q.val / 8, by omega⟩ := Fin.ext (show 2 * q.val / 16 % 320 = q.val / 8 by omega)
      rw [h0, h1, h2]
    · rw [odd_apply, weights_apply, hi_apply, zero_apply]
      unfold term
      have h0 : (2 * q.val + 1) % 2 = 1 := by omega
      have h1 : Fin.ofNat 2560 ((2 * q.val + 1) / 2) = q := Fin.ext (show (2 * q.val + 1) / 2 % 2560 = q.val by omega)
      have h2 : Fin.ofNat 320 ((2 * q.val + 1) / 16) = ⟨q.val / 8, by omega⟩ := Fin.ext (show (2 * q.val + 1) / 16 % 320 = q.val / 8 by omega)
      rw [h0, h1, h2]

end Cert.Proof.Reference

end
-- ==== Proof.Algebraic.lean ====
/-
  The kernel and the reference agree over the extended reals: both results are the dense product of the dequantized
  weights plus the sparse sum, element by element.
-/
module

public import proofs.«01_k».proof.Defs
public import proofs.«01_k».proof.Proof.KernelRun
public import proofs.«01_k».proof.Proof.Reference

@[expose] public section

noncomputable section

namespace Cert.Proof.Algebraic

open Idealize.ShloMosaic Idealize.ShloMosaic.ValueIdx Idealize.SL.Sem

/-- The reference's result is the kernel's, as functions of the arguments. -/
theorem agree (m : (ℓ : Loc Cert.KernelIdeal.nD Cert.KernelIdeal.τ Cert.KernelIdeal.sig) → Buf (Elt Ideal) ℓ)
    (g : Dev Cert.KernelIdeal.nD → PrngReg) (c : Dev Cert.KernelIdeal.nD) :
    Reference.result (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = (Cert.KernelIdeal.Gen.dat1 (Cert.KernelIdeal.Gen.V2 m g) c).arrAt 2 Cert.KernelIdeal.cfg1.N := by
  rw [KernelRun.value m g c]
  funext j
  obtain ⟨b, n, rfl⟩ : ∃ (b : Fin 96) (n : Fin 55296), j = ix2 b n := ⟨_, _, eq_ix2 (n0 := 96) (n1 := 55296) j⟩
  exact Reference.result_apply _ _ _ _ _ b n

/-- The value claim. -/
theorem algebraic : Cert.algebraic_KernelIdeal_ReferenceIdeal := by
  intro m g m' g' _ hagree
  refine ⟨fun c => (Cert.KernelIdeal.Gen.dat1 (Cert.KernelIdeal.Gen.V2 m g) c).arrAt 2 Cert.KernelIdeal.cfg1.N,
    KernelRun.run m g, (θ_run Cert.ReferenceIdeal.defs _ _).mono (fun r h c => ⟨(h c).1.trans ?_, (h c).2⟩)
      (Cert.ReferenceIdeal.Value.run (F := Ideal) m' g')⟩
  obtain ⟨h0, h1, h2, h3, h4⟩ := hagree c
  rw [h0, h1, h2, h3, h4]
  exact agree m g c

end Cert.Proof.Algebraic

end
-- ==== Proof.lean ====
/- The proof of the certificate's claims: the frames and the rewrites (Proof/Frames.lean), and the values (Proof/Algebraic.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  Frames.frame_p, Frames.frame_pi, Frames.frame_ri, Frames.preserves, Algebraic.algebraic⟩

end Cert.Proof

end
